-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_probabilities_and_labels [hPre_probabilities_and_labels : Cert.Pre_probabilities_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_probabilities_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_probabilities_and_labels [hPre_probabilities_and_labels : Cert.Pre_probabilities_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_probabilities_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_probabilities_and_labels [hKernelIdeal : Cert.KernelIdeal.Facts] [hPre_probabilities_and_labels : Cert.Pre_probabilities_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_probabilities_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_probabilities_and_labels [hReferenceIdeal : Cert.ReferenceIdeal.Facts] [hPre_probabilities_and_labels : Cert.Pre_probabilities_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_probabilities_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_probabilities_and_labels [hKernelIdeal : Cert.KernelIdeal.Facts] [hReferenceIdeal : Cert.ReferenceIdeal.Facts] [hPre_probabilities_and_labels : Cert.Pre_probabilities_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_probabilities_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_probabilities_and_labels : Cert.Pre_probabilities_and_labels.Facts),
    quiescent_Kernel (hKernel := hKernel)
    ∧ quiescent_KernelIdeal (hKernelIdeal := hKernelIdeal)
    ∧ quiescent_KernelIdeal_pre_probabilities_and_labels (hKernelIdeal := hKernelIdeal) (hPre_probabilities_and_labels := hPre_probabilities_and_labels)
    ∧ quiescent_ReferenceIdeal (hReferenceIdeal := hReferenceIdeal)
    ∧ quiescent_ReferenceIdeal_pre_probabilities_and_labels (hReferenceIdeal := hReferenceIdeal) (hPre_probabilities_and_labels := hPre_probabilities_and_labels)
    ∧ preserves_Kernel_KernelIdeal
    ∧ algebraic_KernelIdeal_ReferenceIdeal_pre_probabilities_and_labels (hKernelIdeal := hKernelIdeal) (hReferenceIdeal := hReferenceIdeal) (hPre_probabilities_and_labels := hPre_probabilities_and_labels)
-- ==== Pre_probabilities_and_labels.lean ====
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)

variable [Facts]

def fn {F : FTy → Type} [FloatOps F] (main_arg0 : FVec F S8x512x512 .f32) (main_arg1 : FVec F S8x512x512 .f32) : IVec S8x512x512 1 :=
  let main_cst : FVec F S_ .f32 := constant S_ .f32 0x00000000#32
  let main_v0 : FVec F S8x512x512 .f32 := broadcastInDim S8x512x512 ![] bcast_S_S8x512x512 main_cst
  let main_v1 : IVec S8x512x512 1 := cmpf .oge main_arg0 main_v0
  let main_cst_0 : FVec F S_ .f32 := constant S_ .f32 0x3F800000#32
  let main_v2 : FVec F S8x512x512 .f32 := broadcastInDim S8x512x512 ![] bcast_S_S8x512x512 main_cst_0
  let main_v3 : IVec S8x512x512 1 := cmpf .ole main_arg0 main_v2
  let main_v4 : IVec S8x512x512 1 := andi main_v1 main_v3
  let main_cst_1 : FVec F S_ .f32 := constant S_ .f32 0x00000000#32
  let main_v5 : FVec F S8x512x512 .f32 := broadcastInDim S8x512x512 ![] bcast_S_S8x512x512 main_cst_1
  let main_v6 : IVec S8x512x512 1 := cmpf .oeq main_arg1 main_v5
  let main_cst_2 : FVec F S_ .f32 := constant S_ .f32 0x3F800000#32
  let main_v7 : FVec F S8x512x512 .f32 := broadcastInDim S8x512x512 ![] bcast_S_S8x512x512 main_cst_2
  let main_v8 : IVec S8x512x512 1 := cmpf .oeq main_arg1 main_v7
  let main_v9 : IVec S8x512x512 1 := ori main_v6 main_v8
  let main_v10 : IVec S8x512x512 1 := andi main_v4 main_v9
  main_v10
-- ==== Kernel.lean ====
abbrev S8x512x512 : Shape := ⟨3, ![8, 512, 512]⟩
abbrev S1x1 : Shape := ⟨2, ![1, 1]⟩
abbrev S4x512x512 : Shape := ⟨3, ![4, 512, 512]⟩
abbrev S4 : Shape := ⟨1, ![4]⟩
abbrev S1x4 : Shape := ⟨2, ![1, 4]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8x512x512, .f32⟩
  | .hbm, ⟨1, _⟩ => ⟨S8x512x512, .f32⟩
  | .hbm, ⟨2, _⟩ => ⟨S1x1, .f32⟩
  | .hbm, ⟨3, _⟩ => ⟨S_, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S1x1, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x512x512 : Shape := ⟨3, ![8, 512, 512]⟩
abbrev S_ : Shape := ⟨0, ![]⟩
abbrev S1 : Shape := ⟨1, ![1]⟩
abbrev S2 : Shape := ⟨1, ![2]⟩
abbrev S1x1x1 : Shape := ⟨3, ![1, 1, 1]⟩
abbrev S8 : Shape := ⟨1, ![8]⟩
abbrev S8x1x1 : Shape := ⟨3, ![8, 1, 1]⟩

abbrev nBuf : Space → Nat
  | .hbm => 333
  | .vmem => 0
  | .smem => 0
  | _ => 0

abbrev hbmTy0_0 (i : Nat) : BufTy := match i % 128 with
  | 0 => ⟨S8x512x512, .f32⟩
  | 1 => ⟨S8x512x512, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1x1, .f32⟩
  | 17 => ⟨S1x1x1, .f32⟩
  | 18 => ⟨S1, .i32⟩
  | 19 => ⟨S_, .i32⟩
  | 20 => ⟨S1, .i32⟩
  | 21 => ⟨S_, .i32⟩
  | 22 => ⟨S8x512x512, .i64⟩
  | 23 => ⟨S8x512x512, .i64⟩
  | 24 => ⟨S8x512x512, .i64⟩
  | 25 => ⟨S_, .i64⟩
  | 26 => ⟨S8x512x512, .i64⟩
  | 27 => ⟨S8x512x512, .i64⟩
  | 28 => ⟨S_, .i64⟩
  | 29 => ⟨S8x512x512, .i64⟩
  | 30 => ⟨S8x512x512, .i64⟩
  | 31 => ⟨S_, .i64⟩
  | 32 => ⟨S8x512x512, .i64⟩
  | 33 => ⟨S8x512x512, .i64⟩
  | 34 => ⟨S8x512x512, .i64⟩
  | 35 => ⟨S8x512x512, .i64⟩
  | 36 => ⟨S_, .i64⟩
  | 37 => ⟨S8x512x512, .i64⟩
  | 38 => ⟨S8x512x512, .i64⟩
  | 39 => ⟨S8x512x512, .i32⟩
  | 40 => ⟨S8x512x512, .i32⟩
  | 41 => ⟨S_, .i32⟩
  | 42 => ⟨S_, .i32⟩
  | 43 => ⟨S_, .i32⟩
  | 44 => ⟨S8x512x512, .i32⟩
  | 45 => ⟨S8x512x512, .i32⟩
  | 46 => ⟨S8x512x512, .i32⟩
  | 47 => ⟨S8x512x512, .i32⟩
  | 48 => ⟨S8x512x512, .i32⟩
  | 49 => ⟨S_, .i32⟩
  | 50 => ⟨S8x512x512, .i32⟩
  | 51 => ⟨S8x512x512, .i32⟩
  | 52 => ⟨S_, .i32⟩
  | 53 => ⟨S8x512x512, .i32⟩
  | 54 => ⟨S8x512x512, .i32⟩
  | 55 => ⟨S8x512x512, .i32⟩
  | 56 => ⟨S8x512x512, .i32⟩
  | 57 => ⟨S8x512x512, .i32⟩
  | 58 => ⟨S_, .i32⟩
  | 59 => ⟨S8x512x512, .i32⟩
  | 60 => ⟨S8x512x512, .i32⟩
  | 61 => ⟨S_, .i32⟩
  | 62 => ⟨S8x512x512, .i32⟩
  | 63 => ⟨S8x512x512, .i32⟩
  | 64 => ⟨S8x512x512, .i32⟩
  | 65 => ⟨S8x512x512, .i32⟩
  | 66 => ⟨S8x512x512, .i32⟩
  | 67 => ⟨S_, .i32⟩
  | 68 => ⟨S8x512x512, .i32⟩
  | 69 => ⟨S8x512x512, .i32⟩
  | 70 => ⟨S_, .i32⟩
  | 71 => ⟨S8x512x512, .i32⟩
  | 72 => ⟨S8x512x512, .i32⟩
  | 73 => ⟨S8x512x512, .i32⟩
  | 74 => ⟨S8x512x512, .i32⟩
  | 75 => ⟨S8x512x512, .i32⟩
  | 76 => ⟨S_, .i32⟩
  | 77 => ⟨S8x512x512, .i32⟩
  | 78 => ⟨S8x512x512, .i32⟩
  | 79 => ⟨S_, .i32⟩
  | 80 => ⟨S8x512x512, .i32⟩
  | 81 => ⟨S8x512x512, .i32⟩
  | 82 => ⟨S8x512x512, .i32⟩
  | 83 => ⟨S8x512x512, .i32⟩
  | 84 => ⟨S8x512x512, .i32⟩
  | 85 => ⟨S8x512x512, .i32⟩
  | 86 => ⟨S8x512x512, .i32⟩
  | 87 => ⟨S8x512x512, .i32⟩
  | 88 => ⟨S_, .i32⟩
  | 89 => ⟨S8x512x512, .i32⟩
  | 90 => ⟨S8x512x512, .i32⟩
  | 91 => ⟨S8x512x512, .i32⟩
  | 92 => ⟨S_, .i32⟩
  | 93 => ⟨S8x512x512, .i32⟩
  | 94 => ⟨S8x512x512, .i32⟩
  | 95 => ⟨S_, .i32⟩
  | 96 => ⟨S8x512x512, .i32⟩
  | 97 => ⟨S8x512x512, .i32⟩
  | 98 => ⟨S8x512x512, .i32⟩
  | 99 => ⟨S8x512x512, .i32⟩
  | 100 => ⟨S8x512x512, .i32⟩
  | 101 => ⟨S_, .i32⟩
  | 102 => ⟨S8x512x512, .i32⟩
  | 103 => ⟨S8x512x512, .i32⟩
  | 104 => ⟨S_, .i32⟩
  | 105 => ⟨S8x512x512, .i32⟩
  | 106 => ⟨S8x512x512, .i32⟩
  | 107 => ⟨S8x512x512, .i32⟩
  | 108 => ⟨S8x512x512, .i32⟩
  | 109 => ⟨S8x512x512, .i32⟩
  | 110 => ⟨S_, .i32⟩
  | 111 => ⟨S8x512x512, .i32⟩
  | 112 => ⟨S8x512x512, .i32⟩
  | 113 => ⟨S_, .i32⟩
  | 114 => ⟨S8x512x512, .i32⟩
  | 115 => ⟨S8x512x512, .i32⟩
  | 116 => ⟨S8x512x512, .i32⟩
  | 117 => ⟨S8x512x512, .i32⟩
  | 118 => ⟨S8x512x512, .i32⟩
  | 119 => ⟨S_, .i32⟩
  | 120 => ⟨S8x512x512, .i32⟩
  | 121 => ⟨S8x512x512, .i32⟩
  | 122 => ⟨S_, .i32⟩
  | 123 => ⟨S8x512x512, .i32⟩
  | 124 => ⟨S8x512x512, .i32⟩
  | 125 => ⟨S8x512x512, .i32⟩
  | 126 => ⟨S8x512x512, .i32⟩
  | 127 => ⟨S8x512x512, .i32⟩
  | _ => ⟨S8x512x512, .f32⟩

abbrev hbmTy0_1 (i : Nat) : BufTy := match i % 128 with
  | 0 => ⟨S8x512x512, .i32⟩
  | 1 => ⟨S8x512x512, .i32⟩
  | 2 => ⟨S8x512x512, .i32⟩
  | 3 => ⟨S_, .i32⟩
  | 4 => ⟨S8x512x512, .i32⟩
  | 5 => ⟨S8x512x512, .i32⟩
  | 6 => ⟨S8x512x512, .i32⟩
  | 7 => ⟨S_, .i32⟩
  | 8 => ⟨S8x512x512, .i32⟩
  | 9 => ⟨S8x512x512, .i32⟩
  | 10 => ⟨S_, .i32⟩
  | 11 => ⟨S8x512x512, .i32⟩
  | 12 => ⟨S8x512x512, .i32⟩
  | 13 => ⟨S8x512x512, .i32⟩
  | 14 => ⟨S8x512x512, .i32⟩
  | 15 => ⟨S8x512x512, .i32⟩
  | 16 => ⟨S_, .i32⟩
  | 17 => ⟨S8x512x512, .i32⟩
  | 18 => ⟨S8x512x512, .i32⟩
  | 19 => ⟨S_, .i32⟩
  | 20 => ⟨S8x512x512, .i32⟩
  | 21 => ⟨S8x512x512, .i32⟩
  | 22 => ⟨S8x512x512, .i32⟩
  | 23 => ⟨S8x512x512, .i32⟩
  | 24 => ⟨S8x512x512, .i32⟩
  | 25 => ⟨S_, .i32⟩
  | 26 => ⟨S8x512x512, .i32⟩
  | 27 => ⟨S8x512x512, .i32⟩
  | 28 => ⟨S_, .i32⟩
  | 29 => ⟨S8x512x512, .i32⟩
  | 30 => ⟨S8x512x512, .i32⟩
  | 31 => ⟨S8x512x512, .i32⟩
  | 32 => ⟨S8x512x512, .i32⟩
  | 33 => ⟨S8x512x512, .i32⟩
  | 34 => ⟨S_, .i32⟩
  | 35 => ⟨S8x512x512, .i32⟩
  | 36 => ⟨S8x512x512, .i32⟩
  | 37 => ⟨S_, .i32⟩
  | 38 => ⟨S8x512x512, .i32⟩
  | 39 => ⟨S8x512x512, .i32⟩
  | 40 => ⟨S8x512x512, .i32⟩
  | 41 => ⟨S8x512x512, .i32⟩
  | 42 => ⟨S8x512x512, .i32⟩
  | 43 => ⟨S8x512x512, .i32⟩
  | 44 => ⟨S8x512x512, .i32⟩
  | 45 => ⟨S8x512x512, .i32⟩
  | 46 => ⟨S_, .i32⟩
  | 47 => ⟨S8x512x512, .i32⟩
  | 48 => ⟨S8x512x512, .i32⟩
  | 49 => ⟨S8x512x512, .i32⟩
  | 50 => ⟨S_, .i32⟩
  | 51 => ⟨S8x512x512, .i32⟩
  | 52 => ⟨S8x512x512, .i32⟩
  | 53 => ⟨S_, .i32⟩
  | 54 => ⟨S8x512x512, .i32⟩
  | 55 => ⟨S8x512x512, .i32⟩
  | 56 => ⟨S8x512x512, .i32⟩
  | 57 => ⟨S8x512x512, .i32⟩
  | 58 => ⟨S8x512x512, .i32⟩
  | 59 => ⟨S_, .i32⟩
  | 60 => ⟨S8x512x512, .i32⟩
  | 61 => ⟨S8x512x512, .i32⟩
  | 62 => ⟨S_, .i32⟩
  | 63 => ⟨S8x512x512, .i32⟩
  | 64 => ⟨S8x512x512, .i32⟩
  | 65 => ⟨S8x512x512, .i32⟩
  | 66 => ⟨S8x512x512, .i32⟩
  | 67 => ⟨S8x512x512, .i32⟩
  | 68 => ⟨S_, .i32⟩
  | 69 => ⟨S8x512x512, .i32⟩
  | 70 => ⟨S8x512x512, .i32⟩
  | 71 => ⟨S_, .i32⟩
  | 72 => ⟨S8x512x512, .i32⟩
  | 73 => ⟨S8x512x512, .i32⟩
  | 74 => ⟨S8x512x512, .i32⟩
  | 75 => ⟨S8x512x512, .i32⟩
  | 76 => ⟨S8x512x512, .i32⟩
  | 77 => ⟨S_, .i32⟩
  | 78 => ⟨S8x512x512, .i32⟩
  | 79 => ⟨S8x512x512, .i32⟩
  | 80 => ⟨S_, .i32⟩
  | 81 => ⟨S8x512x512, .i32⟩
  | 82 => ⟨S8x512x512, .i32⟩
  | 83 => ⟨S8x512x512, .i32⟩
  | 84 => ⟨S8x512x512, .i32⟩
  | 85 => ⟨S8x512x512, .i32⟩
  | 86 => ⟨S8x512x512, .i32⟩
  | 87 => ⟨S8x512x512, .i32⟩
  | 88 => ⟨S8x512x512, .i32⟩
  | 89 => ⟨S_, .i32⟩
  | 90 => ⟨S8x512x512, .i32⟩
  | 91 => ⟨S8x512x512, .i32⟩
  | 92 => ⟨S8x512x512, .i32⟩
  | 93 => ⟨S_, .i32⟩
  | 94 => ⟨S8x512x512, .i32⟩
  | 95 => ⟨S8x512x512, .i32⟩
  | 96 => ⟨S_, .i32⟩
  | 97 => ⟨S8x512x512, .i32⟩
  | 98 => ⟨S8x512x512, .i32⟩
  | 99 => ⟨S8x512x512, .i32⟩
  | 100 => ⟨S8x512x512, .i32⟩
  | 101 => ⟨S8x512x512, .i32⟩
  | 102 => ⟨S_, .i32⟩
  | 103 => ⟨S8x512x512, .i32⟩
  | 104 => ⟨S8x512x512, .i32⟩
  | 105 => ⟨S_, .i32⟩
  | 106 => ⟨S8x512x512, .i32⟩
  | 107 => ⟨S8x512x512, .i32⟩
  | 108 => ⟨S8x512x512, .i32⟩
  | 109 => ⟨S8x512x512, .i32⟩
  | 110 => ⟨S8x512x512, .i32⟩
  | 111 => ⟨S_, .i32⟩
  | 112 => ⟨S8x512x512, .i32⟩
  | 113 => ⟨S8x512x512, .i32⟩
  | 114 => ⟨S_, .i32⟩
  | 115 => ⟨S8x512x512, .i32⟩
  | 116 => ⟨S8x512x512, .i32⟩
  | 117 => ⟨S8x512x512, .i32⟩
  | 118 => ⟨S8x512x512, .i32⟩
  | 119 => ⟨S8x512x512, .i32⟩
  | 120 => ⟨S_, .i32⟩
  | 121 => ⟨S8x512x512, .i32⟩
  | 122 => ⟨S8x512x512, .i32⟩
  | 123 => ⟨S_, .i32⟩
  | 124 => ⟨S8x512x512, .i32⟩
  | 125 => ⟨S8x512x512, .i32⟩
  | 126 => ⟨S8x512x512, .i32⟩
  | 127 => ⟨S8x512x512, .i32⟩
  | _ => ⟨S8x512x512, .f32⟩

abbrev hbmTy0_2 (i : Nat) : BufTy := match i % 128 with
  | 0 => ⟨S8x512x512, .i32⟩
  | 1 => ⟨S8x512x512, .i32⟩
  | 2 => ⟨S8x512x512, .i32⟩
  | 3 => ⟨S8x512x512, .i32⟩
  | 4 => ⟨S_, .i32⟩
  | 5 => ⟨S8x512x512, .i32⟩
  | 6 => ⟨S8x512x512, .i32⟩
  | 7 => ⟨S8x512x512, .i32⟩
  | 8 => ⟨S_, .i32⟩
  | 9 => ⟨S8x512x512, .i32⟩
  | 10 => ⟨S8x512x512, .i32⟩
  | 11 => ⟨S_, .i32⟩
  | 12 => ⟨S8x512x512, .i32⟩
  | 13 => ⟨S8x512x512, .i32⟩
  | 14 => ⟨S8x512x512, .f32⟩
  | 15 => ⟨S_, .f32⟩
  | 16 => ⟨S8x512x512, .f32⟩
  | 17 => ⟨S8x512x512, .f32⟩
  | 18 => ⟨S1x1x1, .f32⟩
  | 19 => ⟨S8x512x512, .f32⟩
  | 20 => ⟨S8x512x512, .f32⟩
  | 21 => ⟨S8x512x512, .f32⟩
  | 22 => ⟨S8x512x512, .f32⟩
  | 23 => ⟨S8x512x512, .f32⟩
  | 24 => ⟨S8x512x512, .f32⟩
  | 25 => ⟨S_, .f32⟩
  | 26 => ⟨S8x512x512, .f32⟩
  | 27 => ⟨S8x512x512, .i1⟩
  | 28 => ⟨S8x512x512, .i32⟩
  | 29 => ⟨S_, .i32⟩
  | 30 => ⟨S8, .i32⟩
  | 31 => ⟨S8, .f32⟩
  | 32 => ⟨S_, .f32⟩
  | 33 => ⟨S8x512x512, .f32⟩
  | 34 => ⟨S8x512x512, .i1⟩
  | 35 => ⟨S8x512x512, .i32⟩
  | 36 => ⟨S_, .i32⟩
  | 37 => ⟨S8, .i32⟩
  | 38 => ⟨S8, .f32⟩
  | 39 => ⟨S8, .f32⟩
  | 40 => ⟨S8, .f32⟩
  | 41 => ⟨S8, .f32⟩
  | 42 => ⟨S_, .f32⟩
  | 43 => ⟨S8x512x512, .f32⟩
  | 44 => ⟨S8x512x512, .i1⟩
  | 45 => ⟨S8x1x1, .f32⟩
  | 46 => ⟨S_, .f32⟩
  | 47 => ⟨S8x512x512, .f32⟩
  | 48 => ⟨S8x512x512, .i1⟩
  | 49 => ⟨S8x1x1, .f32⟩
  | 50 => ⟨S8x512x512, .f32⟩
  | 51 => ⟨S8x512x512, .f32⟩
  | 52 => ⟨S8x512x512, .f32⟩
  | 53 => ⟨S8x512x512, .f32⟩
  | 54 => ⟨S8x512x512, .f32⟩
  | 55 => ⟨S_, .f32⟩
  | 56 => ⟨S_, .f32⟩
  | 57 => ⟨S8x512x512, .f32⟩
  | 58 => ⟨S8x512x512, .f32⟩
  | 59 => ⟨S8x512x512, .f32⟩
  | 60 => ⟨S8x512x512, .f32⟩
  | 61 => ⟨S_, .f32⟩
  | 62 => ⟨S_, .f32⟩
  | 63 => ⟨S8x512x512, .f32⟩
  | 64 => ⟨S8x512x512, .f32⟩
  | 65 => ⟨S8x512x512, .f32⟩
  | 66 => ⟨S_, .f32⟩
  | 67 => ⟨S8x512x512, .f32⟩
  | 68 => ⟨S8x512x512, .f32⟩
  | 69 => ⟨S8x512x512, .f32⟩
  | 70 => ⟨S8x512x512, .f32⟩
  | 71 => ⟨S8x512x512, .f32⟩
  | 72 => ⟨S8x512x512, .f32⟩
  | 73 => ⟨S_, .f32⟩
  | 74 => ⟨S_, .f32⟩
  | 75 => ⟨S_, .f32⟩
  | 76 => ⟨S_, .f32⟩
  | _ => ⟨S8x512x512, .f32⟩

abbrev hbmTy (i : Nat) : BufTy := match i / 128 with
  | 0 => hbmTy0_0 i
  | 1 => hbmTy0_1 i
  | 2 => hbmTy0_2 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c : Ref sig .tc := ⟨.hbm, 25, rfl⟩
abbrev main_call0_v11 : Ref sig .tc := ⟨.hbm, 26, rfl⟩
abbrev main_call0_v12 : Ref sig .tc := ⟨.hbm, 27, rfl⟩
abbrev main_call0_c_0 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_2 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v23_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v23_1 : Ref sig .tc := ⟨.hbm, 262, rfl⟩
abbrev main_call0_v24 : Ref sig .tc := ⟨.hbm, 263, rfl⟩
abbrev main_call0_c_3 : Ref sig .tc := ⟨.hbm, 264, rfl⟩
abbrev main_call0_v25 : Ref sig .tc := ⟨.hbm, 265, rfl⟩
abbrev main_call0_v26 : Ref sig .tc := ⟨.hbm, 266, rfl⟩
abbrev main_call0_c_4 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_cst : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_call0_v34 : Ref sig .tc := ⟨.hbm, 276, rfl⟩
abbrev main_call0_v35 : Ref sig .tc := ⟨.hbm, 277, rfl⟩
abbrev main_call0_v36 : Ref sig .tc := ⟨.hbm, 278, rfl⟩
abbrev main_call0_v37 : Ref sig .tc := ⟨.hbm, 279, rfl⟩
abbrev main_v7 : Ref sig .tc := ⟨.hbm, 280, rfl⟩
abbrev main_cst_3 : Ref sig .tc := ⟨.hbm, 281, rfl⟩
abbrev main_v8 : Ref sig .tc := ⟨.hbm, 282, rfl⟩
abbrev main_v9 : Ref sig .tc := ⟨.hbm, 283, rfl⟩
abbrev main_v10 : Ref sig .tc := ⟨.hbm, 284, rfl⟩
abbrev main_c_4 : Ref sig .tc := ⟨.hbm, 285, rfl⟩
abbrev main_v11 : Ref sig .tc := ⟨.hbm, 286, rfl⟩
abbrev main_v12 : Ref sig .tc := ⟨.hbm, 287, rfl⟩
abbrev main_cst_5 : Ref sig .tc := ⟨.hbm, 288, rfl⟩
abbrev main_v13 : Ref sig .tc := ⟨.hbm, 289, rfl⟩
abbrev main_v14 : Ref sig .tc := ⟨.hbm, 290, rfl⟩
abbrev main_v15 : Ref sig .tc := ⟨.hbm, 291, rfl⟩
abbrev main_c_6 : Ref sig .tc := ⟨.hbm, 292, rfl⟩
abbrev main_v16 : Ref sig .tc := ⟨.hbm, 293, rfl⟩
abbrev main_v17 : Ref sig .tc := ⟨.hbm, 294, rfl⟩
abbrev main_v18 : Ref sig .tc := ⟨.hbm, 295, rfl⟩
abbrev main_v19 : Ref sig .tc := ⟨.hbm, 296, rfl⟩
abbrev main_v20 : Ref sig .tc := ⟨.hbm, 297, rfl⟩
abbrev main_cst_7 : Ref sig .tc := ⟨.hbm, 298, rfl⟩
abbrev main_v21 : Ref sig .tc := ⟨.hbm, 299, rfl⟩
abbrev main_v22 : Ref sig .tc := ⟨.hbm, 300, rfl⟩
abbrev main_v23 : Ref sig .tc := ⟨.hbm, 301, rfl⟩
abbrev main_cst_8 : Ref sig .tc := ⟨.hbm, 302, rfl⟩
abbrev main_v24 : Ref sig .tc := ⟨.hbm, 303, rfl⟩
abbrev main_v25 : Ref sig .tc := ⟨.hbm, 304, rfl⟩
abbrev main_v26 : Ref sig .tc := ⟨.hbm, 305, rfl⟩
abbrev main_call1_v0 : Ref sig .tc := ⟨.hbm, 306, rfl⟩
abbrev main_v27 : Ref sig .tc := ⟨.hbm, 307, rfl⟩
abbrev main_call2_v0 : Ref sig .tc := ⟨.hbm, 308, rfl⟩
abbrev main_v28 : Ref sig .tc := ⟨.hbm, 309, rfl⟩
abbrev main_v29 : Ref sig .tc := ⟨.hbm, 310, rfl⟩
abbrev main_cst_9 : Ref sig .tc := ⟨.hbm, 311, rfl⟩
abbrev main_call3_v0 : Ref sig .tc := ⟨.hbm, 312, rfl⟩
abbrev main_call3_v1 : Ref sig .tc := ⟨.hbm, 313, rfl⟩
abbrev main_v30 : Ref sig .tc := ⟨.hbm, 314, rfl⟩
abbrev main_v31 : Ref sig .tc := ⟨.hbm, 315, rfl⟩
abbrev main_v32 : Ref sig .tc := ⟨.hbm, 316, rfl⟩
abbrev main_cst_10 : Ref sig .tc := ⟨.hbm, 317, rfl⟩
abbrev main_call4_v0 : Ref sig .tc := ⟨.hbm, 318, rfl⟩
abbrev main_call4_v1 : Ref sig .tc := ⟨.hbm, 319, rfl⟩
abbrev main_v33 : Ref sig .tc := ⟨.hbm, 320, rfl⟩
abbrev main_v34 : Ref sig .tc := ⟨.hbm, 321, rfl⟩
abbrev main_cst_11 : Ref sig .tc := ⟨.hbm, 322, rfl⟩
abbrev main_v35 : Ref sig .tc := ⟨.hbm, 323, rfl⟩
abbrev main_v36 : Ref sig .tc := ⟨.hbm, 324, rfl⟩
abbrev main_v37 : Ref sig .tc := ⟨.hbm, 325, rfl⟩
abbrev main_v38 : Ref sig .tc := ⟨.hbm, 326, rfl⟩
abbrev main_v39 : Ref sig .tc := ⟨.hbm, 327, rfl⟩
abbrev main_v40 : Ref sig .tc := ⟨.hbm, 328, rfl⟩
abbrev main_cst_12 : Ref sig .tc := ⟨.hbm, 329, rfl⟩
abbrev main_v41 : Ref sig .tc := ⟨.hbm, 330, rfl⟩
abbrev main_cst_13 : Ref sig .tc := ⟨.hbm, 331, rfl⟩
abbrev main_v42 : Ref sig .tc := ⟨.hbm, 332, rfl⟩

abbrev nD : Nat := 1
abbrev τ : Topo := Topo.v7x

variable {F : FTy → Type} [FloatOps F]
-- ==== Proof.Consts.lean ====
/- The values of the words that the programs write as constants, over the extended reals. -/
module

public import Idealize.ShloMosaic.Lib.Pointwise

@[expose] public section

noncomputable section

namespace Cert.Proof.Consts

open Idealize.ShloMosaic

/-- The word of zero. -/
theorem zero : Ideal.ofBits .f32 0x00000000#32 = ((0 : ℝ) : EReal) := by
  simp [Ideal.ofBits, Ideal.ieee, -EReal.coe_mul]

/-- The word of one. -/
theorem one : Ideal.ofBits .f32 0x3F800000#32 = ((1 : ℝ) : EReal) := by
  simp [Ideal.ofBits, Ideal.ieee, -EReal.coe_mul]
  norm_num

/-- The word of -100, the lower clip of the logarithms. -/
theorem floor : Ideal.ofBits .f32 0xC2C80000#32 = ((-100 : ℝ) : EReal) := by
  simp [Ideal.ofBits, Ideal.ieee, -EReal.coe_mul]
  norm_num

/-- The word of 2^18, the number of elements of one batch entry. -/
theorem sheet : Ideal.ofBits .f32 0x48800000#32 = ((262144 : ℝ) : EReal) := by
  simp [Ideal.ofBits, Ideal.ieee, -EReal.coe_mul]
  norm_num

/-- The word of 2^21, the number of elements of the whole batch. -/
theorem batch : Ideal.ofBits .f32 0x4A000000#32 = ((2097152 : ℝ) : EReal) := by
  simp [Ideal.ofBits, Ideal.ieee, -EReal.coe_mul]
  norm_num

/-- The word of -2^-39, the kernel's scale: 2^18 times 2^21 elements, and the loss's minus sign. -/
theorem scale : Ideal.ofBits .f32 0xAC000000#32 = ((-(1 / 549755813888) : ℝ) : EReal) := by
  simp [Ideal.ofBits, Ideal.ieee, -EReal.coe_mul]
  norm_num

end Cert.Proof.Consts

end
-- ==== Proof.Score.lean ====
/- The mathematics of the weighted loss over the reals: one batch entry's score, in the kernel's form and the reference's. -/
module

public import Idealize.ShloMosaic.Lib.Pointwise

@[expose] public section

noncomputable section

namespace Cert.Proof.Score

open Idealize.ShloMosaic

/-- The sum of one batch entry's elements. -/
def total (f : Fin 512 → Fin 512 → ℝ) : ℝ := ∑ k, ∑ l, f k l

/-- A sum of two arrays' elements is the sum of the two sums. -/
theorem total_add (f g : Fin 512 → Fin 512 → ℝ) : total (fun k l => f k l + g k l) = total f + total g := by
  simp [total, Finset.sum_add_distrib]
/-- And a difference the difference. -/
theorem total_sub (f g : Fin 512 → Fin 512 → ℝ) : total (fun k l => f k l - g k l) = total f - total g := by
  simp [total, Finset.sum_sub_distrib]
/-- A constant factor comes out of a sum. -/
theorem total_smul (a : ℝ) (f : Fin 512 → Fin 512 → ℝ) : total (fun k l => a * f k l) = a * total f := by
  simp [total, Finset.mul_sum]
/-- A batch entry has 2^18 elements. -/
theorem total_one : total (fun _ _ => 1) = 262144 := by
  simp [total]; norm_num

/-- The logarithm clipped below at -100; nothing and less count as the clip. -/
def clip (r : ℝ) : ℝ := if r ≤ 0 then -100 else max (Real.log r) (-100)

/-- One batch entry's score: each class's share of the labels times the class's log-likelihood, times 2^18. -/
def score (t e : Fin 512 → Fin 512 → ℝ) : ℝ :=
  total t * total (fun k l => t k l * e k l) + (262144 - total t) * (total e - total fun k l => t k l * e k l)

/-- The weight of a label: its class's share of the labels of the batch entry. -/
def weight (t : Fin 512 → Fin 512 → ℝ) (k l : Fin 512) : ℝ :=
  if t k l = 0 then (262144 - total t) / 262144 else total t / 262144

/-- The zero-labels are those that the one-labels leave. -/
theorem zeros (t : Fin 512 → Fin 512 → ℝ) (h : ∀ k l, t k l = 0 ∨ t k l = 1) :
    (total fun k l => if t k l = 0 then 1 else 0) = 262144 - total t := by
  rw [← total_one, ← total_sub]
  congr 1; funext k l
  rcases h k l with h | h <;> simp [h]

/-- And the one-labels are counted by their sum. -/
theorem ones (t : Fin 512 → Fin 512 → ℝ) (h : ∀ k l, t k l = 0 ∨ t k l = 1) :
    (total fun k l => if t k l = 1 then 1 else 0) = total t := by
  congr 1; funext k l
  rcases h k l with h | h <;> simp [h]

/-- The weighted losses of a batch entry sum to minus its score over 2^18. -/
theorem weighted (t e : Fin 512 → Fin 512 → ℝ) (h : ∀ k l, t k l = 0 ∨ t k l = 1) :
    (total fun k l => weight t k l * -e k l) = -(score t e / 262144) := by
  have hw : (fun k l => weight t k l * -e k l) = fun k l =>
      (-(total t / 262144)) * (t k l * e k l) + (-((262144 - total t) / 262144)) * (e k l - t k l * e k l) := by
    funext k l
    rcases h k l with h | h <;> simp [weight, h]
  rw [hw, total_add, total_smul, total_smul, total_sub, score]
  ring

/-- The clipped logarithm over the extended reals is that over the reals. -/
theorem clip_log (r : ℝ) : max (Ideal.log (r : EReal)) ((-100 : ℝ) : EReal) = (clip r : EReal) := by
  unfold clip
  show max (if r ≤ 0 then (⊥ : EReal) else (Real.log r : EReal)) _ = _
  split
  · exact max_eq_right bot_le
  · exact (EReal.coe_strictMono.monotone.map_max).symm

/-- A sum of reals is the same over the extended reals. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- So is the sum of a batch entry. -/
theorem coe_total (f : Fin 512 → Fin 512 → ℝ) : ∑ k, ∑ l, (f k l : EReal) = (total f : EReal) := by
  simp only [coe_sum, total]

/-- And the magnitude of a real. -/
theorem coe_abs (r : ℝ) : FloatOps.absf (F := Ideal) (φ := .f32) (r : EReal) = ((|r| : ℝ) : EReal) := by
  show max (r : EReal) (-(r : EReal)) = _
  rw [← EReal.coe_neg]
  exact (EReal.coe_strictMono.monotone.map_max).symm

end Cert.Proof.Score

end
-- ==== Proof.KernelRun.lean ====
/- What the kernel leaves in its result: the sum of the contributions of the two grid points. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.Proof.KernelRun

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The one offset of a whole access of the one-element output. -/
theorem off2 : (![0, 0] : Fin 2 → Nat) = fun _ => 0 := by funext a; fin_cases a <;> rfl
/-- The one offset of a whole access of an input block. -/
theorem off3 : (![0, 0, 0] : Fin 3 → Nat) = fun _ => 0 := by funext a; fin_cases a <;> rfl

/-- The one-element output has one index. -/
instance one_idx : Subsingleton S1x1.Idx :=
  ⟨fun i j => funext fun a => by fin_cases a <;> exact Subsingleton.elim (α := Fin 1) _ _⟩

/-- The first point leaves its contribution over a zero it has just stored. -/
theorem first_point (c : Dev nD) (t : Fin cfg0.N) (h : t.val % 2 = 0) :
    outsAt0 m c t.val t.isLt = k0_pay2 (iblk m c 0 t) (iblk m c 1 t) (k0_pay1 (F := F)) := by
  rw [outsAt0_A m c t h]
  unfold out0_A_2
  rw [View.read_writes_eq_canon _ _ _ fun y => cover0_A_2 _ _ _ _ _ _ _ _ _ _ _ y]
  unfold kernelRun0_A
  dsimp only
  sl_unfold_words
  rw [View.canon_cons_unit_zero (S := S1x1) off2, View.readCov_unit_zero (S := S1x1) _ off2]
  simp only [View.readAt_eq_ld, (hs0_0 t).read_unread, (hs0_1 t).read_unread, View.ld_unit_zero (S := S1x1) off2,
    View.ld_unit_zero (S := S4x512x512) off3, shapeCast_self]

/-- A later point leaves its contribution over what the point before left. -/
theorem later_point (c : Dev nD) (t : Fin cfg0.N) (h : ¬t.val % 2 = 0) :
    outsAt0 m c t.val t.isLt = k0_pay2 (iblk m c 0 t) (iblk m c 1 t)
      (outsAt0 m c (t.val - 1) (Nat.lt_of_le_of_lt (Nat.sub_le _ _) t.isLt)) := by
  rw [outsAt0_B m c t h]
  unfold out0_B_2
  rw [View.read_writes_eq_canon _ _ _ fun y => cover0_B_2 _ _ _ _ _ _ _ _ _ _ _ _ y]
  unfold kernelRun0_B
  dsimp only
  sl_unfold_words
  rw [View.canon_unit_zero off2]
  simp only [View.readAt_eq_ld, (hs0_0 t).read_unread, (hs0_1 t).read_unread, (hs0_2 t).read_unread,
    View.ld_unit_zero (S := S1x1) off2, View.ld_unit_zero (S := S4x512x512) off3, shapeCast_self]

/-- What the output window's buffer holds at the end: the second point's contribution over the first's over zero. -/
def total (c : Dev nD) : FVec F S1x1 .f32 :=
  k0_pay2 (iblk m c 0 t0_1) (iblk m c 1 t0_1) (k0_pay2 (iblk m c 0 t0_0) (iblk m c 1 t0_0) (k0_pay1 (F := F)))

/-- The last point leaves `total`. -/
theorem last_point (c : Dev nD) : outsAt0 m c t0_1.val t0_1.isLt = total m c := by
  rw [later_point m c t0_1 (by decide)]
  exact congrArg _ (first_point m c t0_0 rfl)

/-- Only the last point writes the output back. -/
theorem flush_last (t : Fin cfg0.N) (h : (cfg0.win 2).flush t = true) : t = t0_1 := by
  rcases fin_N0 t with rfl | rfl
  · exact absurd ((flush0_2 _).mp h) (by decide)
  · rfl

/-- The output array at the end of the region. -/
theorem final_array (c : Dev nD) : (dats m 0 c).arrAt 2 cfg0.N = total m c := by
  refine (dats m 0 c).arrAt_eq_of_cover 2 _ (fun t hf => ?_) (fun i => ⟨t0_1, (flush0_2 _).mpr rfl, ?_⟩)
  · obtain rfl := flush_last t hf
    show (cfg0.win 2).cut (grid0.coords t0_1) ((dats m 0 c).after 2 t0_1) = _
    rw [after0_2, last_point]
    funext y
    exact congrArg (total m c) (Subsingleton.elim (α := S1x1.Idx) _ _)
  · have y : S1x1.Idx := fun a => ⟨0, by fin_cases a <;> decide⟩
    have e : i = ((cfg0.win 2).blk t0_1).view.emb y := Subsingleton.elim (α := S1x1.Idx) _ _
    rw [e]
    exact View.emb_mem_set _ _

/-- The host's reshape after the region reads that array. -/
theorem result_read (c : Dev nD) :
    Pipeline.afterTail₀ cfgs (dats m) 0 (V0 m) [hostOps1] c main_v1 = shapeCast S_ (total m c) shapeCasts_S1x1_S_ := by
  show StableHlo.after hostOps1 _ (Proc.devRef .tc main_v1) = _
  simp only [after_cons, after_nil]
  rw [reshape_result]
  funext i
  show shapeCast S_ _ shapeCasts_S1x1_S_ i = _
  refine congrFun (congrArg (fun x : FVec F S1x1 .f32 => shapeCast S_ x shapeCasts_S1x1_S_) ?_) i
  exact (Pipeline.withArrays_arr spec0 (by decide) c (V0 m c) _ 2).trans (final_array m c)

/-- The result of the program is no array of the region. -/
theorem result_rest : main_v1 ∈ Pipeline.restRefs sig spec0 := by decide

/-- THE RUN: from any memory the kernel ends with `total`, as a scalar, in its result and its arguments as they were. -/
theorem run : θ_run defs (onTc (τ := τ) (main (F := F))) ⟨m, fun _ => 0, ρ⟩ (fun r => ∀ c : Dev nD,
      r.2.mem ((c.tc : Thread nD τ).loc main_v1) = shapeCast S_ (total m c) shapeCasts_S1x1_S_
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c => ⟨((h.1 c).2 main_v1 result_rest).trans (result_read m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (run_main_quiescent m ρ)

/-- Point `t` reads block `t` of the predictions along the batch axis. -/
theorem index0 : ∀ t : Fin cfg0.N, win0_0.index t = ![t.val, 0, 0] :=
  (by decide +kernel : ∀ t : Fin grid0.N, win0_0.index t = ![t.val, 0, 0])
/-- And block `t` of the labels. -/
theorem index1 : ∀ t : Fin cfg0.N, win0_1.index t = ![t.val, 0, 0] :=
  (by decide +kernel : ∀ t : Fin grid0.N, win0_1.index t = ![t.val, 0, 0])

/-- The array index of element `y` of point `t`'s block. -/
def whole (t : Fin cfg0.N) (y : S4x512x512.Idx) : S8x512x512.Idx := fun a => match a with
  | ⟨0, _⟩ => ⟨4 * t.val + (y 0).val, by
      have h0 : (y 0).val < 4 := (y 0).isLt
      have h1 : t.val < 2 := Nat.lt_of_lt_of_eq t.isLt N_0
      show _ < 8; omega⟩
  | ⟨1, _⟩ => ⟨(y 1).val, (y 1).isLt⟩
  | ⟨2, _⟩ => ⟨(y 2).val, (y 2).isLt⟩

/-- A block index `![t, 0, 0]` places an element of the block at `whole t`. -/
theorem place {t : Fin cfg0.N} {y : S4x512x512.Idx} {j : S8x512x512.Idx} {b : Fin 3 → ℕ} (hb : b = ![t.val, 0, 0])
    (h : ∀ a, (j a).val = b a * S4x512x512.size a + 1 * (y a).val) : j = whole t y := by
  subst hb
  funext a; apply Fin.ext
  refine (h a).trans ?_
  fin_cases a
  · show t.val * 4 + 1 * (y 0).val = 4 * t.val + (y 0).val; omega
  · show 0 * 512 + 1 * (y 1).val = (y 1).val; omega
  · show 0 * 512 + 1 * (y 2).val = (y 2).val; omega

/-- The predictions' block at a point holds the point's four batch entries. -/
theorem block0 (c : Dev nD) (t : Fin cfg0.N) (y : S4x512x512.Idx) :
    iblk m c 0 t y = m ((c.tc : Thread nD τ).loc main_arg0) (whole t y) :=
  congrArg (m ((c.tc : Thread nD τ).loc main_arg0))
    (place (j := ((cfg0.win 0).blk t).view.emb y) (index0 t) fun _ => rfl)

/-- The labels' block holds theirs. -/
theorem block1 (c : Dev nD) (t : Fin cfg0.N) (y : S4x512x512.Idx) :
    iblk m c 1 t y = m ((c.tc : Thread nD τ).loc main_arg1) (whole t y) :=
  congrArg (m ((c.tc : Thread nD τ).loc main_arg1))
    (place (j := ((cfg0.win 1).blk t).view.emb y) (index1 t) fun _ => rfl)

end Cert.Proof.KernelRun

end
-- ==== Proof.Block.lean ====
/- What one grid point adds to the accumulator, and so what the kernel's array holds, over real predictions and labels. -/
module

public import proofs.«01_k».proof.Proof.Consts
public import proofs.«01_k».proof.Proof.Score
public import proofs.«01_k».proof.Proof.KernelRun

@[expose] public section

noncomputable section

namespace Cert.Proof.Block

open Cert.KernelIdeal Cert.KernelIdeal.Gen
open Idealize.ShloMosaic Idealize.ShloMosaic.TcCoe
open Cert.Proof

/-- The log-likelihood in the kernel's form: the clipped logarithm of the distance from the prediction to the other label. -/
def logLik (x t : ℝ) : ℝ := Score.clip |x + (t - 1)|

/-- A point adds its four batch entries' scores, scaled, to what the accumulator held. -/
theorem pay2_at (p l : Vec Ideal S4x512x512 .f32) (acc : Vec Ideal S1x1 .f32) (x t : S4x512x512.Idx → ℝ) (a : ℝ)
    (hp : ∀ i, p i = (x i : EReal)) (hl : ∀ i, l i = (t i : EReal)) (j : S1x1.Idx) (ha : acc j = (a : EReal)) :
    k0_pay2 p l acc j
      = ((a + (∑ b : Fin 4, Score.score (fun k l => t (ix3 b k l)) (fun k l => logLik (x (ix3 b k l)) (t (ix3 b k l))))
          * (-(1 / 549755813888)) : ℝ) : EReal) := by
  pointwise [k0_pay2]
  simp only [hp, hl, ha, Score.score, logLik, Consts.floor, Consts.sheet, Consts.scale, ← EReal.coe_one, ← EReal.coe_sub,
    ← EReal.coe_add, Score.coe_abs, Score.clip_log, ← EReal.coe_mul, Score.coe_sum]
  rfl

/-- The accumulator starts at zero. -/
theorem pay1_at (j : S1x1.Idx) : k0_pay1 (F := Ideal) j = ((0 : ℝ) : EReal) := Consts.zero

variable (m : (ℓ : Loc nD τ sig) → Buf (Elt Ideal) ℓ) (c : Dev nD)

/-- The array after the two points: the scores of all eight batch entries, scaled. -/
theorem total_at (x t : S8x512x512.Idx → ℝ) (hp : m ((c.tc : Thread nD τ).loc main_arg0) = fun i => (x i : EReal))
    (ht : m ((c.tc : Thread nD τ).loc main_arg1) = fun i => (t i : EReal)) (j : S1x1.Idx) :
    KernelRun.total m c j
      = (((∑ b : Fin 8, Score.score (fun k l => t (ix3 b k l)) (fun k l => logLik (x (ix3 b k l)) (t (ix3 b k l))))
          * (-(1 / 549755813888)) : ℝ) : EReal) := by
  have h0 (s : Fin cfg0.N) (y : S4x512x512.Idx) : iblk m c 0 s y = (x (KernelRun.whole s y) : EReal) :=
    (KernelRun.block0 m c s y).trans (congrFun hp _)
  have h1 (s : Fin cfg0.N) (y : S4x512x512.Idx) : iblk m c 1 s y = (t (KernelRun.whole s y) : EReal) :=
    (KernelRun.block1 m c s y).trans (congrFun ht _)
  have hw (s : Fin cfg0.N) (b : Fin 4) (k l : Fin 512) (r : Fin 8) (hr : r.val = 4 * s.val + b.val) :
      KernelRun.whole s (ix3 b k l) = ix3 r k l := by
    funext a; apply Fin.ext
    fin_cases a
    · exact hr.symm
    · rfl
    · rfl
  unfold KernelRun.total
  rw [pay2_at _ _ _ _ _ _ (h0 t0_1) (h1 t0_1) j (pay2_at _ _ _ _ _ _ (h0 t0_0) (h1 t0_0) j (pay1_at j))]
  simp only [Fin.sum_univ_four, Fin.sum_univ_eight]
  simp only [hw t0_0 0 _ _ 0 rfl, hw t0_0 1 _ _ 1 rfl, hw t0_0 2 _ _ 2 rfl, hw t0_0 3 _ _ 3 rfl,
    hw t0_1 0 _ _ 4 rfl, hw t0_1 1 _ _ 5 rfl, hw t0_1 2 _ _ 6 rfl, hw t0_1 3 _ _ 7 rfl]
  congr 1; ring

end Cert.Proof.Block

end
-- ==== Proof.HostLine.lean ====
/- Straight lines of host operations, read without listing them: a line that leaves the two argument arrays alone, and
   a line followed step by step to what it leaves in memory. -/
module

public import proofs.«01_k».proof.Proof.Gen.ReferenceIdeal
public import Idealize.ShloMosaic.Lib.StableHlo.Run

@[expose] public section

noncomputable section

namespace Cert.Proof.HostLine

open Cert.ReferenceIdeal Idealize.ShloMosaic Idealize.ShloMosaic.StableHlo Idealize.SL.Sem

variable {F : FTy → Type} [FloatOps F]

/-- A host program of the reference's machine. -/
abbrev HostProg (F : FTy → Type) [FloatOps F] : Type 1 :=
  Prog (TpuEff nD τ sig (Elt F) (Pipeline.Sig Λ₀ (Fin 0) fun p => (pcfgs (F := F) p).Adm) .tc) PUnit

/-- The operation works on TensorCore buffers and its results are determined by what it reads. -/
def Plain (op : HloOp τ sig (Elt F)) : Prop := op.bufs ⊆ tcRefs τ sig ∧ op.fresh = ∅

/-- The operation writes neither argument array. -/
def Spares (op : HloOp τ sig (Elt F)) : Prop :=
  Proc.devRef .tc main_arg0 ∉ op.writes ∧ Proc.devRef .tc main_arg1 ∉ op.writes

section PlainOps

variable {x a b e y : Ref sig .tc}

/-- A constant is a plain operation. -/
theorem plain_nullary (v : y.ty.Contents (Elt F)) (hy) : Plain (nullary (τ := τ) y v hy) := ⟨nullary_bufs_sub .., rfl⟩
/-- A one-operand operation is plain. -/
theorem plain_unary (f : x.ty.Contents (Elt F) → y.ty.Contents (Elt F)) (hx hy) : Plain (unary (τ := τ) x y f hx hy) :=
  ⟨unary_bufs_sub .., rfl⟩
/-- A two-operand operation is plain. -/
theorem plain_binary (f : a.ty.Contents (Elt F) → b.ty.Contents (Elt F) → y.ty.Contents (Elt F)) (ha hb hy) :
    Plain (binary (τ := τ) a b y f ha hb hy) := ⟨binary_bufs_sub .., rfl⟩
/-- A three-operand operation is plain. -/
theorem plain_ternary (f : e.ty.Contents (Elt F) → a.ty.Contents (Elt F) → b.ty.Contents (Elt F) → y.ty.Contents (Elt F))
    (he ha hb hy) : Plain (ternary (τ := τ) e a b y f he ha hb hy) := ⟨ternary_bufs_sub .., rfl⟩
/-- A reshape is plain. -/
theorem plain_reshape (he hn hx hy) : Plain (F := F) (reshape (τ := τ) x y he hn hx hy) := ⟨reshape_bufs_sub .., rfl⟩

end PlainOps

/-- An operation whose one result is not an argument array spares the arguments. -/
theorem spares_of {op : HloOp τ sig (Elt F)} {y : Ref sig .tc} (hw : op.writes = {Proc.devRef .tc y})
    (h0 : main_arg0 ≠ y) (h1 : main_arg1 ≠ y) : Spares op := by
  refine ⟨?_, ?_⟩ <;> rw [hw, Finset.mem_singleton]
  · exact devRef_ne_of_ne h0
  · exact devRef_ne_of_ne h1

/-- The program is a straight line of operations, none of which writes an argument array. -/
def Quiet (p : HostProg F) : Prop :=
  ∃ ops : List (HloOp τ sig (Elt F)), p = seq ops ∧ ∀ op ∈ ops, Plain op ∧ Spares op

/-- The empty program. -/
theorem Quiet.nil : Quiet (F := F) (pure ⟨⟩) := ⟨[], rfl, fun _ h => nomatch h⟩

/-- One operation, then a quiet program. -/
theorem Quiet.cons {op : HloOp τ sig (Elt F)} {k : HostProg F} (hp : Plain op) (hs : Spares op) (hk : Quiet k) :
    Quiet ((hlo rfl op fun _ => .ret (⟨⟩ : PUnit)) >>= fun _ => k) := by
  obtain ⟨ops, rfl, h⟩ := hk
  refine ⟨op :: ops, rfl, fun o ho => ?_⟩
  rcases List.mem_cons.mp ho with rfl | ho
  · exact ⟨hp, hs⟩
  · exact h o ho

/-- One operation alone. -/
theorem Quiet.one {op : HloOp τ sig (Elt F)} (hp : Plain op) (hs : Spares op) :
    Quiet (F := F) (hlo rfl op fun _ => .ret (⟨⟩ : PUnit)) := by
  refine ⟨[op], (bind_pure _).symm, fun o ho => ?_⟩
  rw [List.mem_singleton.mp ho]
  exact ⟨hp, hs⟩

/-- Two quiet programs one after the other. -/
theorem Quiet.bind {p q : HostProg F} (hp : Quiet p) (hq : Quiet q) : Quiet (p >>= fun _ => q) := by
  obtain ⟨l, rfl, hl⟩ := hp
  obtain ⟨l', rfl, hl'⟩ := hq
  refine ⟨l ++ l', (seq_append l l').symm, fun o ho => ?_⟩
  rcases List.mem_append.mp ho with ho | ho
  · exact hl o ho
  · exact hl' o ho

/-- Running one list after another is running their concatenation. -/
theorem after_two (l l' : List (HloOp τ sig (Elt F))) (V : Valuation τ sig (Elt F)) :
    after (l ++ l') V = after l' (after l V) := by
  induction l generalizing V with
  | nil => rfl
  | cons op l ih => rw [List.cons_append, after_cons, after_cons, ih]

/-- From contents `V` the program is a straight line that leaves contents of which `Q` holds. -/
def Ends (p : HostProg F) (V : Valuation τ sig (Elt F)) (Q : Valuation τ sig (Elt F) → Prop) : Prop :=
  ∃ ops : List (HloOp τ sig (Elt F)), p = seq ops ∧ (∀ op ∈ ops, Plain op) ∧ Q (after ops V)

/-- The empty program leaves what it finds. -/
theorem Ends.nil {V : Valuation τ sig (Elt F)} {Q : Valuation τ sig (Elt F) → Prop} (h : Q V) :
    Ends (F := F) (pure ⟨⟩) V Q := ⟨[], rfl, ⟨fun _ ho => (List.not_mem_nil ho).elim, h⟩⟩

/-- One operation, then the rest from its result. -/
theorem Ends.cons {op : HloOp τ sig (Elt F)} {k : HostProg F} {V : Valuation τ sig (Elt F)}
    {Q : Valuation τ sig (Elt F) → Prop} (hp : Plain op) (hk : Ends k (op.result V) Q) :
    Ends ((hlo rfl op fun _ => .ret (⟨⟩ : PUnit)) >>= fun _ => k) V Q := by
  obtain ⟨ops, rfl, h, hq⟩ := hk
  refine ⟨op :: ops, rfl, fun o ho => ?_, hq⟩
  rcases List.mem_cons.mp ho with rfl | ho
  · exact hp
  · exact h o ho

/-- A quiet program, then the rest from contents of which only the argument arrays are known. -/
theorem Ends.quiet {p k : HostProg F} {V : Valuation τ sig (Elt F)} {Q : Valuation τ sig (Elt F) → Prop} (hp : Quiet p)
    (hk : ∀ V' : Valuation τ sig (Elt F), V' (Proc.devRef .tc main_arg0) = V (Proc.devRef .tc main_arg0) →
      V' (Proc.devRef .tc main_arg1) = V (Proc.devRef .tc main_arg1) → Ends k V' Q) :
    Ends (p >>= fun _ => k) V Q := by
  obtain ⟨l, rfl, hl⟩ := hp
  obtain ⟨l', rfl, hl', hq⟩ := hk (after l V) (after_of_forall_not_mem l V fun o ho => (hl o ho).2.1)
    (after_of_forall_not_mem l V fun o ho => (hl o ho).2.2)
  refine ⟨l ++ l', (seq_append l l').symm, fun o ho => ?_, by rwa [after_two]⟩
  rcases List.mem_append.mp ho with ho | ho
  · exact (hl o ho).1
  · exact hl' o ho

end Cert.Proof.HostLine

end
-- ==== Proof.Noise.lean ====
/- The reference's noise array: the operations that make it write no argument array. -/
module

public import proofs.«01_k».proof.Proof.HostLine

@[expose] public section

noncomputable section

namespace Cert.Proof.Noise

open Cert.ReferenceIdeal Cert.ReferenceIdeal.Gen Cert.Proof.HostLine
open Idealize.ShloMosaic Idealize.ShloMosaic.StableHlo Idealize.SL.Sem

variable {F : FTy → Type} [FloatOps F]

set_option maxHeartbeats 16000000 in
/-- The operations that make the noise array, the generator's rounds among them, write no argument array. -/
theorem uniform : Quiet (F := F) (fn_uniform.body (.of main_v6) (.of main_cst) (.of main_cst_2) main_call0) := by
  unfold fn_uniform.body fn_threefry2x32.body fn_threefry2x32.body_part0 fn_threefry2x32.body_part1
    fn_threefry2x32.body_part2 fn_threefry2x32.body_part3
  repeat' first
    | with_reducible exact Quiet.nil
    | with_reducible apply Quiet.cons
    | with_reducible apply Quiet.one
    | with_reducible refine Quiet.bind ?_ ?_
    | with_reducible apply plain_nullary
    | with_reducible apply plain_unary
    | with_reducible apply plain_binary
    | with_reducible apply plain_reshape
    | exact spares_of rfl (by decide) (by decide)

end Cert.Proof.Noise

end
-- ==== Proof.RefRun.lean ====
/- What the reference leaves in its result, as a term of the two argument arrays and the noise array. -/
module

public import proofs.«01_k».proof.Proof.Noise
public import Idealize.ShloMosaic.Lib.Quiescent

@[expose] public section

noncomputable section

namespace Cert.Proof.RefRun

open Cert.ReferenceIdeal Cert.ReferenceIdeal.Gen Cert.Proof.HostLine
open Idealize.ShloMosaic Idealize.ShloMosaic.TcCoe Idealize.ShloMosaic.StableHlo Idealize.SL.Sem

variable {F : FTy → Type} [FloatOps F]

/-- An array of one word everywhere. -/
def splat (b : BitVec 32) : FVec F S8x512x512 .f32 := broadcastInDim S8x512x512 ![] bcast_S_S8x512x512 (constant S_ .f32 b)

/-- Where the labels equal the word `b`. -/
def isLabel (t : FVec F S8x512x512 .f32) (b : BitVec 32) : IVec S8x512x512 1 := cmpf .oeq t (splat b)

/-- How many labels of each batch entry equal the word `b`, as a float. -/
def count (t : FVec F S8x512x512 .f32) (b : BitVec 32) : FVec F S8 .f32 :=
  sitofp .f32 (Host.reduce IntOp.addi (extui 32 (isLabel t b) natLt_1_32) (constantI S_ 32 0#32) reducesTo_S8x512x512_S8_d1_2 h_S_)

/-- The share of each batch entry's labels that equal the word `b`, zero-labels and one-labels counted. -/
def share (t : FVec F S8x512x512 .f32) (b : BitVec 32) : FVec F S8 .f32 :=
  Host.divf (count t b) (addf (count t 0x00000000#32) (count t 0x3F800000#32))

/-- `share` at every element of its batch entry. -/
def shareAt (t : FVec F S8x512x512 .f32) (b : BitVec 32) : FVec F S8x512x512 .f32 :=
  broadcastInDim S8x512x512 ![0, 1, 2] bcast_S8x1x1_S8x512x512_0_1_2 (broadcastInDim S8x1x1 ![0] bcast_S8_S8x1x1_0 (share t b))

/-- The weights: the zero share where the label is zero, the one share where it is one, else the noise. -/
def weights (noise t : FVec F S8x512x512 .f32) : FVec F S8x512x512 .f32 :=
  select (isLabel t 0x00000000#32) (shareAt t 0x00000000#32)
    (select (isLabel t 0x3F800000#32) (shareAt t 0x3F800000#32) noise)

/-- An array clipped below at -100. -/
def clipped (x : FVec F S8x512x512 .f32) : FVec F S8x512x512 .f32 :=
  maximumf (broadcastInDim S8x512x512 ![] bcast_S_S8x512x512 (id (constant S_ .f32 0xC2C80000#32))) x

/-- The log-likelihood of each label under its prediction. -/
def likelihood (p t : FVec F S8x512x512 .f32) : FVec F S8x512x512 .f32 :=
  addf (mulf t (clipped (Host.log p))) (mulf (subf (splat 0x3F800000#32) t) (clipped (Host.log1p (Host.negf p))))

/-- The weighted mean loss. -/
def loss (noise p t : FVec F S8x512x512 .f32) : FVec F S_ .f32 :=
  Host.divf (Host.reduceAdd (mulf (weights noise t) (Host.negf (likelihood p t))) (constant S_ .f32 0x00000000#32) reducesTo_S8x512x512_S_d0_1_2 h_S_)
    (constant S_ .f32 0x4A000000#32)

/-- What a run is to leave: the arguments as they were and the weighted mean loss over some noise. -/
def Leaves (p t : FVec F S8x512x512 .f32) (V : Valuation τ sig (Elt F)) : Prop :=
  (∃ noise : FVec F S8x512x512 .f32, V (Proc.devRef .tc main_v42) = loss noise p t)
    ∧ V (Proc.devRef .tc main_arg0) = p ∧ V (Proc.devRef .tc main_arg1) = t

set_option maxHeartbeats 8000000 in
set_option maxRecDepth 8192 in
/-- The reference's program, followed from any contents. -/
theorem main_ends (c : Dev nD) (V : Valuation τ sig (Elt F)) :
    Ends (main (F := F) c) V (Leaves (V (Proc.devRef .tc main_arg0)) (V (Proc.devRef .tc main_arg1))) := by
  unfold main
  -- the key and the generator's two bounds
  iterate 12 refine Ends.cons (by first | with_reducible apply plain_nullary | with_reducible apply plain_unary | with_reducible apply plain_binary) ?_
  refine Ends.quiet Noise.uniform fun V' h0 h1 => ?_
  have e0 : V' (Proc.devRef .tc main_arg0) = V (Proc.devRef .tc main_arg0) := h0.trans (by after_results_simp)
  have e1 : V' (Proc.devRef .tc main_arg1) = V (Proc.devRef .tc main_arg1) := h1.trans (by after_results_simp)
  rw [← e0, ← e1]
  clear h0 h1 e0 e1
  simp only [fn_where.body, fn_clip.body, bind_assoc, pure_bind]
  repeat' first
    | with_reducible apply Ends.cons
    | with_reducible apply plain_nullary
    | with_reducible apply plain_unary
    | with_reducible apply plain_binary
    | with_reducible apply plain_ternary
  refine Ends.nil ⟨⟨V' (Proc.devRef .tc main_v7), ?_⟩, ?_, ?_⟩
  all_goals simp only [TRef.binary, TRef.ternary, TRef.unary, TRef.toBuf, TRef.ofBuf, cast_eq]
  all_goals after_results_simp
  all_goals rfl

/-- The reference's machine keeps no buffer for a kernel's own use. -/
theorem no_scoped_refs : (Finset.univ.filter fun b : Ref sig .tc => b.isScoped) = ∅ := by decide
/-- Nor a semaphore. -/
theorem no_scoped_sems : (Finset.univ.filter fun sm : SemLoc sig => sm.isScoped .tc) = ∅ := by decide

/-- THE RUN: from any memory the reference ends with the weighted mean loss of its arguments, over some noise, in its
    result, its arguments as they were and every counter at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      (∃ noise : FVec F S8x512x512 .f32, r.2.mem ((c.tc : Thread nD τ).loc main_v42)
          = loss noise (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  choose ops hmain hplain hleaves using fun c : Dev nD => main_ends (F := F) c (launchContents m c)
  refine (θ_run defs _ _).mono (fun r h => ⟨fun c => ?_, sem_eq_zero_of_no_sems rfl _⟩)
    (run_seq no_scoped_refs no_scoped_sems defs main ops hmain
      (fun c => List.forall_iff_forall_mem.mpr fun o ho => (hplain c o ho).1) m ρ fun c o ho => (hplain c o ho).2)
  obtain ⟨⟨noise, hv⟩, h0, h1⟩ := hleaves c
  exact ⟨⟨noise, (h c main_v42).trans hv⟩, (h c main_arg0).trans h0, (h c main_arg1).trans h1⟩

end Cert.Proof.RefRun

end
-- ==== Proof.RefValue.lean ====
/- What the reference's loss is over real predictions and labels, when the labels are zeros and ones. -/
module

public import proofs.«01_k».proof.Proof.Consts
public import proofs.«01_k».proof.Proof.Score
public import proofs.«01_k».proof.Proof.RefRun
public import Idealize.ShloMosaic.Lib.IndicatorCount

@[expose] public section

noncomputable section

namespace Cert.Proof.RefValue

open Cert.ReferenceIdeal Cert.ReferenceIdeal.Gen
open Idealize.ShloMosaic
open Cert.Proof

/-- A bit of a comparison is set when the two numbers are equal. -/
theorem eq_bit (x y : EReal) : Ideal.cmp .oeq x y = 1#1 ↔ x = y := by
  by_cases h : x = y <;> simp [Ideal.cmp, h]

/-- A count of at most 2^21 is the same as a signed 32-bit word. -/
theorem small_word (n : ℕ) (h : n ≤ 2097152) : (BitVec.ofNat 32 n).toInt = n := by
  rw [BitVec.toInt_eq_toNat_cond, BitVec.toNat_ofNat]; omega

/-- Adding up the bits counts the labels that equal the word. -/
theorem count_at (t : S8x512x512.Idx → ℝ) (w : BitVec 32) (v : ℝ) (hw : Ideal.ofBits .f32 w = (v : EReal)) (r : Fin 8) :
    RefRun.count (F := Ideal) (fun i => (t i : EReal)) w (ix1 r)
      = ((Score.total fun k l => if t (ix3 r k l) = v then 1 else 0 : ℝ) : EReal) := by
  have hb (i : S8x512x512.Idx) : RefRun.isLabel (F := Ideal) (fun i => (t i : EReal)) w i = 1#1 ↔ t i = v := by
    refine Iff.trans (b := (t i : EReal) = (v : EReal)) ?_ EReal.coe_eq_coe_iff
    rw [← hw]
    exact eq_bit _ _
  show (((Host.reduce IntOp.addi (fun i => (RefRun.isLabel (F := Ideal) (fun i => (t i : EReal)) w i).setWidth 32)
    (constantI S_ 32 0#32) reducesTo_S8x512x512_S8_d1_2 h_S_ (ix1 r)).toInt : ℝ) : EReal) = _
  rw [Host.reduce_eq_fold]
  show (((Finset.fold IntOp.addi 0#32 _ _).toInt : ℝ) : EReal) = _
  rw [IndicatorCount.fold_addi_setWidth_eq_card, small_word]
  · refine congrArg _ ?_
    rw [Finset.filter_congr fun i _ => hb i]
    push_cast
    rw [Finset.natCast_card_filter, Shape.ReducesTo.sum_fiber_r3_a12]
    rfl
  · refine (Finset.card_filter_le _ _).trans ((Finset.card_filter_le _ _).trans ?_)
    simp [Shape.Idx, Fin.prod_univ_three]

/-- The log-likelihood in the reference's form. -/
def logLik (x t : ℝ) : ℝ := t * Score.clip x + (1 - t) * Score.clip (1 - x)

/-- The clip at -100 from the left. -/
theorem clip_left (r : ℝ) : max ((-100 : ℝ) : EReal) (Ideal.log (r : EReal)) = (Score.clip r : EReal) :=
  (max_comm _ _).trans (Score.clip_log r)

/-- The reference's negated log-likelihood of one element. -/
theorem element (x t : ℝ) :
    -((t : EReal) * max ((-100 : ℝ) : EReal) (Ideal.log (x : EReal))
        + (1 - (t : EReal)) * max ((-100 : ℝ) : EReal) (Ideal.log1p (-(x : EReal)))) = ((-logLik x t : ℝ) : EReal) := by
  have h : Ideal.log1p (-(x : EReal)) = Ideal.log ((1 - x : ℝ) : EReal) := by
    unfold Ideal.log1p
    rw [← EReal.coe_one, ← EReal.coe_neg, ← EReal.coe_add, ← sub_eq_add_neg]
  rw [h, clip_left, clip_left, logLik]
  norm_cast

/-- The zero-labels of a batch entry, counted. -/
theorem count_zeros (t : S8x512x512.Idx → ℝ) (h : ∀ i, t i = 0 ∨ t i = 1) (r : Fin 8) :
    RefRun.count (F := Ideal) (fun i => (t i : EReal)) 0x00000000#32 (ix1 r)
      = ((262144 - Score.total fun k l => t (ix3 r k l) : ℝ) : EReal) :=
  (count_at t _ 0 Consts.zero r).trans (congrArg _ (Score.zeros _ fun _ _ => h _))

/-- The one-labels of a batch entry, counted. -/
theorem count_ones (t : S8x512x512.Idx → ℝ) (h : ∀ i, t i = 0 ∨ t i = 1) (r : Fin 8) :
    RefRun.count (F := Ideal) (fun i => (t i : EReal)) 0x3F800000#32 (ix1 r)
      = ((Score.total fun k l => t (ix3 r k l) : ℝ) : EReal) :=
  (count_at t _ 1 Consts.one r).trans (congrArg _ (Score.ones _ fun _ _ => h _))

/-- The weight of a label that is zero or one: the noise is never read. -/
theorem weight_at (t : Fin 512 → Fin 512 → ℝ) (h : ∀ k l, t k l = 0 ∨ t k l = 1) (k l : Fin 512) (n : EReal) :
    (if (t k l : EReal) = 0 then
        Ideal.div ((262144 - Score.total t : ℝ) : EReal) (((262144 - Score.total t : ℝ) : EReal) + (Score.total t : EReal))
      else if (t k l : EReal) = 1 then
        Ideal.div (Score.total t : EReal) (((262144 - Score.total t : ℝ) : EReal) + (Score.total t : EReal))
      else n) = (Score.weight t k l : EReal) := by
  have hd (c : ℝ) : Ideal.div (c : EReal) (((262144 - Score.total t : ℝ) : EReal) + (Score.total t : EReal))
      = ((c / 262144 : ℝ) : EReal) := by
    rw [← EReal.coe_add, sub_add_cancel, Ideal.div_coe (by norm_num), ← EReal.coe_mul, mul_one_div]
  rw [hd, hd, Score.weight]
  rcases h k l with h | h
  · rw [h, if_pos EReal.coe_zero, if_pos rfl]
  · rw [h, if_neg (by simp), if_pos EReal.coe_one, if_neg one_ne_zero]

/-- The reference's loss, whatever the noise: the weighted losses of the eight batch entries over 2^21. -/
theorem loss_at (n p l : FVec Ideal S8x512x512 .f32) (x t : S8x512x512.Idx → ℝ) (hp : ∀ i, p i = (x i : EReal))
    (hl : ∀ i, l i = (t i : EReal)) (h : ∀ i, t i = 0 ∨ t i = 1) (j : S_.Idx) :
    RefRun.loss n p l j
      = (((∑ b : Fin 8, Score.total fun k l => Score.weight (fun k l => t (ix3 b k l)) k l
          * -logLik (x (ix3 b k l)) (t (ix3 b k l))) / 2097152 : ℝ) : EReal) := by
  obtain rfl : l = fun i => (t i : EReal) := funext hl
  have hf : id (constant (F := Ideal) S_ .f32 0xC2C80000#32) ix0 = ((-100 : ℝ) : EReal) := Consts.floor
  have hw (b : Fin 8) (k l : Fin 512) (v : EReal) :=
    weight_at (fun k l => t (ix3 b k l)) (fun k l => h _) k l v
  pointwise [RefRun.loss, RefRun.weights, RefRun.shareAt, RefRun.share, RefRun.likelihood, RefRun.clipped, RefRun.splat,
    RefRun.isLabel]
  simp only [count_zeros t h, count_ones t h, hw, hp, hf, element, Consts.batch, ← EReal.coe_mul, Score.coe_sum]
  rw [Ideal.div_coe (by norm_num), ← EReal.coe_mul, mul_one_div]
  rfl

end Cert.Proof.RefValue

end
-- ==== Proof.Equation.lean ====
/- The kernel's value is the reference's, when the predictions lie between zero and one and the labels are zeros and ones. -/
module

public import proofs.«01_k».proof.Proof.Block
public import proofs.«01_k».proof.Proof.RefValue
public import proofs.«01_k».proof.Defs
public import Idealize.ShloMosaic.Lib.ReduceAll

@[expose] public section

noncomputable section

namespace Cert.Proof.Equation

open Idealize.ShloMosaic Idealize.ShloMosaic.TcCoe
open Cert.Proof

/-- A prediction between zero and one. -/
def Probability (x : ℝ) : Prop := 0 ≤ x ∧ x ≤ 1

/-- The two forms of the log-likelihood agree. -/
theorem logLik_eq (x t : ℝ) (hx : Probability x) (ht : t = 0 ∨ t = 1) : Block.logLik x t = RefValue.logLik x t := by
  unfold Block.logLik RefValue.logLik
  rcases ht with rfl | rfl
  · rw [zero_sub, ← sub_eq_add_neg, abs_sub_comm, abs_of_nonneg (sub_nonneg.2 hx.2)]; ring
  · rw [sub_self, add_zero, abs_of_nonneg hx.1]; ring

/-- The scores of the eight batch entries, scaled, are the weighted mean loss. -/
theorem scores_eq (x t : Cert.KernelIdeal.S8x512x512.Idx → ℝ) (hx : ∀ i, Probability (x i)) (ht : ∀ i, t i = 0 ∨ t i = 1) :
    (∑ b : Fin 8, Score.score (fun k l => t (ix3 b k l)) (fun k l => Block.logLik (x (ix3 b k l)) (t (ix3 b k l))))
        * (-(1 / 549755813888))
      = (∑ b : Fin 8, Score.total fun k l => Score.weight (fun k l => t (ix3 b k l)) k l
          * -RefValue.logLik (x (ix3 b k l)) (t (ix3 b k l))) / 2097152 := by
  rw [Finset.sum_mul, Finset.sum_div]
  refine Finset.sum_congr rfl fun b _ => ?_
  simp only [← logLik_eq _ _ (hx _) (ht _)]
  rw [Score.weighted _ (fun k l => Block.logLik (x (ix3 b k l)) (t (ix3 b k l))) fun k l => ht _]
  ring

variable [Cert.Pre_probabilities_and_labels.Facts]

/-- The precondition at one element: the prediction is a real number between zero and one, the label zero or one. -/
theorem pre_at (p l : FVec Ideal Cert.KernelIdeal.S8x512x512 .f32)
    (h : Cert.Pre_probabilities_and_labels.fn (F := Ideal) p l = fun _ => 1#1) (i : Cert.KernelIdeal.S8x512x512.Idx) :
    (∃ x : ℝ, p i = (x : EReal) ∧ Probability x) ∧ ∃ t : ℝ, l i = (t : EReal) ∧ (t = 0 ∨ t = 1) := by
  have e := congrFun h i
  pointwise [Cert.Pre_probabilities_and_labels.fn] at e
  obtain ⟨h1, h2⟩ := IntOp.andi_eq_one.1 e
  obtain ⟨h3, h4⟩ := IntOp.andi_eq_one.1 h1
  have set {P : Prop} [Decidable P] (h : BitVec.ofBool (decide P) = 1#1) : P := by
    by_contra hn
    rw [decide_eq_false hn] at h
    exact absurd h (by decide)
  have h0 : (0 : EReal) ≤ p i := set h3
  have h1 : p i ≤ 1 := set h4
  refine ⟨?_, ?_⟩
  · obtain ⟨x, hx⟩ : ∃ x : ℝ, p i = (x : EReal) :=
      ⟨(p i).toReal, (EReal.coe_toReal (ne_top_of_le_ne_top (EReal.coe_ne_top 1) h1)
        (ne_bot_of_le_ne_bot (EReal.coe_ne_bot 0) h0)).symm⟩
    rw [hx] at h0 h1
    exact ⟨x, hx, EReal.coe_le_coe_iff.1 h0, EReal.coe_le_coe_iff.1 h1⟩
  · rcases IntOp.ori_eq_one.1 h2 with h | h
    · exact ⟨0, set h, .inl rfl⟩
    · exact ⟨1, set h, .inr rfl⟩

variable (m : (ℓ : Loc Cert.KernelIdeal.nD Cert.KernelIdeal.τ Cert.KernelIdeal.sig) → Buf (Elt Ideal) ℓ)

/-- Under the precondition the kernel's result is the reference's loss, whatever the noise. -/
theorem result_eq (hm : Cert.Pre_KernelIdeal_probabilities_and_labels m) (c : Dev Cert.KernelIdeal.nD)
    (noise : FVec Ideal Cert.ReferenceIdeal.S8x512x512 .f32) :
    shapeCast Cert.KernelIdeal.S_ (KernelRun.total m c) Cert.KernelIdeal.Gen.facts.shapeCasts_S1x1_S_
      = RefRun.loss noise (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  choose x hx using fun i => (pre_at _ _ (hm c) i).1
  choose t ht using fun i => (pre_at _ _ (hm c) i).2
  funext j
  refine (Block.total_at m c x t (funext fun i => (hx i).1) (funext fun i => (ht i).1) _).trans ?_
  rw [RefValue.loss_at noise _ _ x t (fun i => (hx i).1) (fun i => (ht i).1) (fun i => (ht i).2) j,
    scores_eq x t (fun i => (hx i).2) fun i => (ht i).2]

end Cert.Proof.Equation

end
-- ==== Proof.lean ====
/- The certificate: the three frames, the preservation and the value claim, each from the module that proves it. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Equation

@[expose] public section

noncomputable section

namespace Cert.Proof

open Idealize.ShloMosaic Idealize.SL.Sem

/-- The reference runs, leaves its arguments as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun _ h => ⟨fun c => (h.1 c).2, h.2⟩) (RefRun.run m g)

/-- The precondition's one side condition: a scalar broadcasts to the whole array. -/
theorem pre_facts : Cert.Pre_probabilities_and_labels.Facts := ⟨by decide⟩

/-- The kernel and the reference end with one value when the precondition holds. -/
theorem value [Cert.Pre_probabilities_and_labels.Facts] :
    Cert.algebraic_KernelIdeal_ReferenceIdeal_pre_probabilities_and_labels := by
  intro m g m' g' hm hargs
  refine ⟨_, KernelRun.run m g, ?_⟩
  refine (θ_run _ _ _).mono (fun r h c => ?_) (RefRun.run m' g')
  obtain ⟨⟨noise, hv⟩, h0, h1⟩ := h.1 c
  refine ⟨?_, h0, h1⟩
  rw [hv, (hargs c).1, (hargs c).2]
  exact (Equation.result_eq m hm c noise).symm

/-- Every claim of the certificate. -/
theorem claim : Cert.Claim :=
  ⟨Cert.Kernel.Gen.facts, Cert.KernelIdeal.Gen.facts, Cert.ReferenceIdeal.Gen.facts, pre_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    @value pre_facts⟩

end Cert.Proof

end
